-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x3 : Shape := ⟨3, ![1, 4096, 3]⟩
abbrev S4096x3 : Shape := ⟨2, ![4096, 3]⟩
abbrev S_ : Shape := ⟨0, ![]⟩
abbrev S4096x8 : Shape := ⟨2, ![4096, 8]⟩
abbrev S8x4096 : Shape := ⟨2, ![8, 4096]⟩
abbrev S1x1 : Shape := ⟨2, ![1, 1]⟩
abbrev S512x8 : Shape := ⟨2, ![512, 8]⟩
abbrev S1x4096 : Shape := ⟨2, ![1, 4096]⟩
abbrev S1 : Shape := ⟨1, ![1]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x512 : Shape := ⟨2, ![1, 512]⟩
abbrev S1x1x4096 : Shape := ⟨3, ![1, 1, 4096]⟩
abbrev S1x1x1 : Shape := ⟨3, ![1, 1, 1]⟩

abbrev nBuf : Space → Nat
  | .hbm => 13
  | .vmem => 5
  | .smem => 1
  | _ => 0

abbrev bufTy : (tb : Table) → Fin (tcTables nBuf tb) → BufTy
  | .hbm, ⟨0, _⟩ => ⟨S1x4096x3, .f32⟩
  | .hbm, ⟨1, _⟩ => ⟨S1x4096x3, .f32⟩
  | .hbm, ⟨2, _⟩ => ⟨S4096x3, .f32⟩
  | .hbm, ⟨3, _⟩ => ⟨S4096x3, .f32⟩
  | .hbm, ⟨4, _⟩ => ⟨S_, .i32⟩
  | .hbm, ⟨5, _⟩ => ⟨S_, .f32⟩
  | .hbm, ⟨6, _⟩ => ⟨S4096x8, .f32⟩
  | .hbm, ⟨7, _⟩ => ⟨S_, .i32⟩
  | .hbm, ⟨8, _⟩ => ⟨S_, .f32⟩
  | .hbm, ⟨9, _⟩ => ⟨S4096x8, .f32⟩
  | .hbm, ⟨10, _⟩ => ⟨S8x4096, .f32⟩
  | .hbm, ⟨11, _⟩ => ⟨S1x1, .f32⟩
  | .hbm, ⟨12, _⟩ => ⟨S_, .f32⟩
  | .local _ .vmem, ⟨0, _⟩ => ⟨S512x8, .f32⟩
  | .local _ .vmem, ⟨1, _⟩ => ⟨S512x8, .f32⟩
  | .local _ .vmem, ⟨2, _⟩ => ⟨S8x4096, .f32⟩
  | .local _ .vmem, ⟨3, _⟩ => ⟨S1x1, .f32⟩
  | .local _ .vmem, ⟨4, _⟩ => ⟨S1x4096, .f32⟩
  | .local _ .smem, ⟨0, _⟩ => ⟨S1, .f32⟩
  | _, _ => ⟨S1x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x4096x3 : Shape := ⟨3, ![1, 4096, 3]⟩
abbrev S_ : Shape := ⟨0, ![]⟩
abbrev S1x4096 : Shape := ⟨2, ![1, 4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S1 : Shape := ⟨1, ![1]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x3, .f32⟩
  | .hbm, ⟨1, _⟩ => ⟨S1x4096x3, .f32⟩
  | .hbm, ⟨2, _⟩ => ⟨S1x4096x3, .f32⟩
  | .hbm, ⟨3, _⟩ => ⟨S_, .f32⟩
  | .hbm, ⟨4, _⟩ => ⟨S1x4096, .f32⟩
  | .hbm, ⟨5, _⟩ => ⟨S1x4096x1, .f32⟩
  | .hbm, ⟨6, _⟩ => ⟨S1x4096x3, .f32⟩
  | .hbm, ⟨7, _⟩ => ⟨S_, .f32⟩
  | .hbm, ⟨8, _⟩ => ⟨S1x4096, .f32⟩
  | .hbm, ⟨9, _⟩ => ⟨S1x1x4096, .f32⟩
  | .hbm, ⟨10, _⟩ => ⟨S1x4096x4096, .f32⟩
  | .hbm, ⟨11, _⟩ => ⟨S1x4096x4096, .f32⟩
  | .hbm, ⟨12, _⟩ => ⟨S1x4096x4096, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .f32⟩
  | .hbm, ⟨17, _⟩ => ⟨S1x4096x4096, .f32⟩
  | .hbm, ⟨18, _⟩ => ⟨S_, .f32⟩
  | .hbm, ⟨19, _⟩ => ⟨S_, .f32⟩
  | .hbm, ⟨20, _⟩ => ⟨S1x4096x4096, .f32⟩
  | .hbm, ⟨21, _⟩ => ⟨S1x4096x4096, .f32⟩
  | .hbm, ⟨22, _⟩ => ⟨S1x4096x4096, .f32⟩
  | .hbm, ⟨23, _⟩ => ⟨S1x4096x3, .f32⟩
  | .hbm, ⟨24, _⟩ => ⟨S_, .f32⟩
  | .hbm, ⟨25, _⟩ => ⟨S1x4096, .f32⟩
  | .hbm, ⟨26, _⟩ => ⟨S1x4096x1, .f32⟩
  | .hbm, ⟨27, _⟩ => ⟨S1x4096x3, .f32⟩
  | .hbm, ⟨28, _⟩ => ⟨S_, .f32⟩
  | .hbm, ⟨29, _⟩ => ⟨S1x4096, .f32⟩
  | .hbm, ⟨30, _⟩ => ⟨S1x1x4096, .f32⟩
  | .hbm, ⟨31, _⟩ => ⟨S1x4096x4096, .f32⟩
  | .hbm, ⟨32, _⟩ => ⟨S1x4096x4096, .f32⟩
  | .hbm, ⟨33, _⟩ => ⟨S1x4096x4096, .f32⟩
  | .hbm, ⟨34, _⟩ => ⟨S1x4096x4096, .f32⟩
  | .hbm, ⟨35, _⟩ => ⟨S_, .f32⟩
  | .hbm, ⟨36, _⟩ => ⟨S1x4096x4096, .f32⟩
  | .hbm, ⟨37, _⟩ => ⟨S1x4096x4096, .f32⟩
  | .hbm, ⟨38, _⟩ => ⟨S1x4096x4096, .f32⟩
  | .hbm, ⟨39, _⟩ => ⟨S_, .f32⟩
  | .hbm, ⟨40, _⟩ => ⟨S_, .f32⟩
  | .hbm, ⟨41, _⟩ => ⟨S1x4096x4096, .f32⟩
  | .hbm, ⟨42, _⟩ => ⟨S1x4096x4096, .f32⟩
  | .hbm, ⟨43, _⟩ => ⟨S1x4096x4096, .f32⟩
  | .hbm, ⟨44, _⟩ => ⟨S_, .f32⟩
  | .hbm, ⟨45, _⟩ => ⟨S1x4096, .f32⟩
  | .hbm, ⟨46, _⟩ => ⟨S_, .f32⟩
  | .hbm, ⟨47, _⟩ => ⟨S1x4096, .f32⟩
  | .hbm, ⟨48, _⟩ => ⟨S1x4096, .f32⟩
  | .hbm, ⟨49, _⟩ => ⟨S_, .f32⟩
  | .hbm, ⟨50, _⟩ => ⟨S1, .f32⟩
  | .hbm, ⟨51, _⟩ => ⟨S1x4096, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S_, .f32⟩
  | _, _ => ⟨S1x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== Proof.Cases.lean ====
/-
  What the body of the idealized kernel leaves behind at one grid point, in terms of the two input blocks and of what the
  point before left in the two running totals: the running column minimum (a row of 4096) and the running sum of the row
  minima (one number). There are three kinds of points: the first, the middle ones and the last.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Chamfer

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The running column minimum after point `n`. -/
abbrev colMin (c : Dev nD) (n : ℕ) (h : n < cfg0.N) : Vec F S1x4096 .f32 := (outsAt0 m c n h).2.1

/-- The running sum of the row minima after point `n`. -/
abbrev rowAcc (c : Dev nD) (n : ℕ) (h : n < cfg0.N) : Elt F .f32 := (outsAt0 m c n h).2.2 (Shape.Idx.first (s := S1) (by decide))

/-- The first point stores the block's column minima. -/
theorem colMin_first (c : Dev nD) (t : Fin cfg0.N) (h : t.val = 0) :
    colMin m c t.val t.isLt = k0_pay4 (iblk m c 0 t) (iblk m c 1 t) := by
  unfold colMin
  rw [outsAt0_A m c t (by omega) (by omega) (by omega)]
  frame_out

/-- The first point stores the sum of the block's row minima. -/
theorem rowAcc_first (c : Dev nD) (t : Fin cfg0.N) (h : t.val = 0) :
    rowAcc m c t.val t.isLt = k0_pay2 (iblk m c 0 t) (iblk m c 1 t) := by
  unfold rowAcc
  rw [outsAt0_A m c t (by omega) (by omega) (by omega)]
  frame_out

/-- A later point takes the minimum of the block's column minima with the running ones. -/
theorem colMin_next (c : Dev nD) (t : Fin cfg0.N) (h : 1 ≤ t.val) :
    colMin m c t.val t.isLt
      = k0_pay5 (iblk m c 0 t) (iblk m c 1 t) (colMin m c (t.val - 1) (Nat.lt_of_le_of_lt (Nat.sub_le _ _) t.isLt)) := by
  have hN : t.val < 8 := Nat.lt_of_lt_of_eq t.isLt N_0
  unfold colMin
  by_cases h7 : t.val % 8 = 7
  · rw [outsAt0_C m c t (by omega) h h7]
    frame_out; simp only [read_unread_whole]
  · rw [outsAt0_B m c t (by omega) h h7]
    frame_out; simp only [read_unread_whole]

/-- A later point adds the sum of the block's row minima to the running sum. -/
theorem rowAcc_next (c : Dev nD) (t : Fin cfg0.N) (h : 1 ≤ t.val) :
    rowAcc m c t.val t.isLt = k0_pay6 (iblk m c 0 t) (iblk m c 1 t)
      (rowAcc m c (t.val - 1) (Nat.lt_of_le_of_lt (Nat.sub_le _ _) t.isLt)) := by
  have hN : t.val < 8 := Nat.lt_of_lt_of_eq t.isLt N_0
  unfold rowAcc
  by_cases h7 : t.val % 8 = 7
  · rw [outsAt0_C m c t (by omega) h h7]
    frame_out; simp only [read_unread_whole]
  · rw [outsAt0_B m c t (by omega) h h7]
    frame_out; simp only [read_unread_whole]

/-- The last point stores, as the result, the running sum plus the sum of the running column minima, both as it has just
    left them. -/
theorem out_last (c : Dev nD) (t : Fin cfg0.N) (h : t.val = 7) :
    (outsAt0 m c t.val t.isLt).1 = k0_pay7 (rowAcc m c t.val t.isLt) (colMin m c t.val t.isLt) := by
  rw [rowAcc_next m c t (by omega), colMin_next m c t (by omega)]
  unfold rowAcc colMin
  rw [outsAt0_C m c t (by omega) (by omega) (by omega)]
  frame_out; simp only [read_unread_whole]

end Cert.KernelIdeal.Chamfer

end
-- ==== Proof.Spec.lean ====
/-
  The Chamfer distance of two clouds of 4096 points in space, written over the extended reals, and what is needed of it:
  the squared distance does not depend on the order of its two points, is not negative, and taking square roots, the
  least of them and its square gives the least squared distance back.
-/
module

public import Idealize.ShloMosaic.Lib.Pointwise

@[expose] public section

noncomputable section

namespace Cert.Chamfer

open Idealize.ShloMosaic

/-- The squared distance of two points `x` and `y`, as both programs write it: `|x|² + |y|² - 2 x·y`, and zero in place
    of anything below zero. -/
def dist2 (x y : Fin 3 → EReal) : EReal :=
  max ((∑ k, x k * x k) + (∑ k, y k * y k) - 2 * ∑ k, x k * y k) 0

/-- The Chamfer distance of two clouds: the squared distance of each point of the first to the nearest point of the
    second, summed, plus the same with the clouds exchanged. -/
def chamfer (x y : Fin 4096 → Fin 3 → EReal) : EReal :=
  (∑ n, Finset.univ.inf fun l => dist2 (x n) (y l)) + ∑ l, Finset.univ.inf fun n => dist2 (x n) (y l)

/-- The points that an argument array of shape 1 by 4096 by 3 holds. -/
def cloud (a : (⟨3, ![1, 4096, 3]⟩ : Shape).Idx → EReal) (n : Fin 4096) (k : Fin 3) : EReal := a (ix3 0 n k)

/-- The squared distance is symmetric. -/
theorem dist2_comm (x y : Fin 3 → EReal) : dist2 x y = dist2 y x := by
  unfold dist2
  rw [add_comm (∑ k, x k * x k)]
  simp only [mul_comm (x _) (y _)]

/-- The squared distance is not negative. -/
theorem dist2_nonneg (x y : Fin 3 → EReal) : 0 ≤ dist2 x y := le_max_right _ _

/-- The word of the constant two denotes two. -/
theorem two_f32 : Ideal.ofBits .f32 0x40000000#32 = 2 := by
  rw [show (2 : EReal) = ((2 : ℝ) : EReal) from rfl]
  simp [Ideal.ofBits, Ideal.ieee]
  rw [← EReal.coe_mul]
  norm_num

/-- The word every minimum starts from denotes positive infinity. -/
theorem inf_f32 : Ideal.ofBits .f32 0x7F800000#32 = ⊤ := by
  simp [Ideal.ofBits, Ideal.ieee]

/-- A fold of `min` from positive infinity is the infimum. -/
theorem fold_min {n : ℕ} (f : Fin n → EReal) : Finset.univ.fold min ⊤ f = Finset.univ.inf f := rfl

/-- The square root is monotone on all of the extended reals (its value below zero is `⊥`). -/
theorem sqrt_monotone : Monotone Ideal.sqrt := by
  intro a b hab
  induction a with
  | bot => exact bot_le
  | top => rw [top_le_iff.mp hab]
  | coe a =>
    induction b with
    | bot => exact absurd hab (by simp)
    | top => exact le_top
    | coe b =>
      have h : a ≤ b := by exact_mod_cast hab
      rw [Ideal.sqrt_coe, Ideal.sqrt_coe]
      split_ifs with ha hb hb
      · exact le_rfl
      · exact bot_le
      · exact absurd (h.trans_lt hb) ha
      · exact_mod_cast Real.sqrt_le_sqrt h

/-- The square of the square root of what is not negative. -/
theorem sqrt_mul_self {a : EReal} (ha : 0 ≤ a) : Ideal.sqrt a * Ideal.sqrt a = a := by
  induction a with
  | bot => exact absurd ha (by simp)
  | top => simp
  | coe a =>
    have h : 0 ≤ a := by exact_mod_cast ha
    rw [Ideal.sqrt_coe, if_neg (not_lt.mpr h)]
    exact_mod_cast Real.mul_self_sqrt h

/-- The square of the least of the square roots is the least of the numbers, none of them negative. -/
theorem inf_sqrt_sq {n : ℕ} (f : Fin n → EReal) (hf : ∀ i, 0 ≤ f i) :
    (Finset.univ.inf fun i => Ideal.sqrt (f i)) * (Finset.univ.inf fun i => Ideal.sqrt (f i)) = Finset.univ.inf f := by
  have h : (Finset.univ.inf fun i => Ideal.sqrt (f i)) = Ideal.sqrt (Finset.univ.inf f) :=
    (Finset.comp_inf_eq_inf_comp_of_is_total Ideal.sqrt sqrt_monotone rfl).symm
  rw [h, sqrt_mul_self (Finset.le_inf fun i _ => hf i)]

end Cert.Chamfer

end
-- ==== Proof.Block.lean ====
/-
  What one grid point of the idealized kernel computes, over the extended reals: the squared distances of the 512 points
  of its row block to all 4096 points of the other cloud, the row minima summed and the column minima, each entry read
  off the two input blocks.
-/
module

public import proofs.«01_k».proof.Proof.Gen.KernelIdeal.Skeleton
public import proofs.«01_k».proof.Proof.Spec

@[expose] public section

set_option maxRecDepth 16384

noncomputable section

namespace Cert.KernelIdeal.Chamfer

open Idealize.ShloMosaic Idealize.ShloMosaic.TcCoe Idealize.SL.Sem
open Cert.KernelIdeal Cert.KernelIdeal.Gen Cert.Chamfer

/-- A point padded with zeros to eight coordinates. -/
def pad8 (x : Fin 3 → EReal) (k : Fin 8) : EReal := if h : k.val < 3 then x ⟨k.val, h⟩ else 0

/-- A sum of products over the eight coordinates of two padded points is the sum over the three. -/
theorem sum_pad8 (x y : Fin 3 → EReal) : ∑ k, pad8 x k * pad8 y k = ∑ k, x k * y k := by
  rw [Fin.sum_univ_eight, Fin.sum_univ_three]
  simp [pad8]

/-- An entry of the block of squared distances, for a row and a column that hold padded points. -/
theorem pay1_apply (x : Vec Ideal S512x8 .f32) (y : Vec Ideal S8x4096 .f32) (r : Fin 512) (l : Fin 4096)
    (p q : Fin 3 → EReal) (hp : ∀ k, x (ix2 r k) = pad8 p k) (hq : ∀ k, y (ix2 k l) = pad8 q k) :
    k0_pay1 (F := Ideal) x y (ix2 r l) = dist2 p q := by
  pointwise [k0_pay1]
  simp only [hp, hq, sum_pad8, two_f32, dist2]

/-- The sum of the block's row minima. -/
theorem pay2_apply (x : Vec Ideal S512x8 .f32) (y : Vec Ideal S8x4096 .f32) :
    k0_pay2 (F := Ideal) x y = ∑ r : Fin 512, Finset.univ.inf fun l : Fin 4096 => k0_pay1 (F := Ideal) x y (ix2 r l) := by
  pointwise [k0_pay2]
  simp only [inf_f32, fold_min]

/-- The column minima the first point stores. -/
theorem pay4_apply (x : Vec Ideal S512x8 .f32) (y : Vec Ideal S8x4096 .f32) (l : Fin 4096) :
    k0_pay4 (F := Ideal) x y (ix2 0 l) = Finset.univ.inf fun r : Fin 512 => k0_pay1 (F := Ideal) x y (ix2 r l) := by
  pointwise [k0_pay4, k0_pay3]
  simp only [inf_f32, fold_min]

/-- The column minima a later point stores over the running ones. -/
theorem pay5_apply (x : Vec Ideal S512x8 .f32) (y : Vec Ideal S8x4096 .f32) (u : Vec Ideal S1x4096 .f32) (l : Fin 4096) :
    k0_pay5 (F := Ideal) x y u (ix2 0 l)
      = min (u (ix2 0 l)) (Finset.univ.inf fun r : Fin 512 => k0_pay1 (F := Ideal) x y (ix2 r l)) := by
  pointwise [k0_pay5, k0_pay3]
  simp only [inf_f32, fold_min]

/-- The running sum of row minima a later point stores. -/
theorem pay6_apply (x : Vec Ideal S512x8 .f32) (y : Vec Ideal S8x4096 .f32) (u : Elt Ideal .f32) :
    k0_pay6 (F := Ideal) x y u = u + k0_pay2 (F := Ideal) x y := by
  pointwise [k0_pay6]

/-- The result the last point stores. -/
theorem pay7_apply (u : Elt Ideal .f32) (y : Vec Ideal S1x4096 .f32) (j : S1x1.Idx) :
    k0_pay7 (F := Ideal) u y j = u + ∑ l : Fin 4096, y (ix2 0 l) := by
  pointwise [k0_pay7]
  simp

end Cert.KernelIdeal.Chamfer

end
-- ==== Proof.Accum.lean ====
/-
  What the idealized kernel's two running totals hold after each grid point, over the extended reals: the least squared
  distance of each point of the second cloud to the points of the first seen so far, and the sum over those points of
  their least squared distance to the second cloud. By induction on the point.
-/
module

public import proofs.«01_k».proof.Proof.Cases
public import proofs.«01_k».proof.Proof.Block
public import Idealize.ShloMosaic.Lib.StableHlo.ReadAt
public import Idealize.ShloMosaic.Lib.Claim

@[expose] public section

set_option maxRecDepth 16384

noncomputable section

namespace Cert.KernelIdeal.Chamfer

open Idealize.ShloMosaic Idealize.ShloMosaic.TcCoe Idealize.SL.Sem
open Cert.KernelIdeal Cert.KernelIdeal.Gen Cert.Chamfer

variable (m : (ℓ : Loc nD τ sig) → Buf (Elt Ideal) ℓ)

/-- The first cloud, as the kernel's first argument holds it. -/
abbrev xs (c : Dev nD) : Fin 4096 → Fin 3 → EReal := cloud (m ((c : Thread nD τ).loc main_arg0))

/-- The second cloud, as the kernel's second argument holds it. -/
abbrev ys (c : Dev nD) : Fin 4096 → Fin 3 → EReal := cloud (m ((c : Thread nD τ).loc main_arg1))

/-- The first operand of the pallas_call holds the first cloud's points, one a row, padded with zeros. -/
theorem operand0 (c : Dev nD) (n : Fin 4096) (k : Fin 8) : (V m c main_v2 : Vec Ideal S4096x8 .f32) (ix2 n k) = pad8 (xs m c n) k := by
  unfold V
  after_reads_at
  have hz : (FloatOps.sitofp (F := Ideal) .f32 0#32 : EReal) = 0 := by simp [FloatOps.sitofp]
  rw [hz]
  rfl

/-- The second operand holds the second cloud's points, one a column, padded with zeros. -/
theorem operand1 (c : Dev nD) (n : Fin 4096) (k : Fin 8) : (V m c main_v4 : Vec Ideal S8x4096 .f32) (ix2 k n) = pad8 (ys m c n) k := by
  unfold V
  after_reads_at
  have hz : (FloatOps.sitofp (F := Ideal) .f32 0#32 : EReal) = 0 := by simp [FloatOps.sitofp]
  rw [hz]
  rfl

/-- Which block of its array each input window reads at a point. -/
theorem index_in (t : Fin cfg0.N) :
    win0_0.index t 0 = t.val ∧ win0_0.index t 1 = 0 ∧ win0_1.index t 0 = 0 ∧ win0_1.index t 1 = 0 :=
  (by decide +kernel : ∀ t : Fin grid0.N,
    win0_0.index t 0 = t.val ∧ win0_0.index t 1 = 0 ∧ win0_1.index t 0 = 0 ∧ win0_1.index t 1 = 0) t

/-- Row `r` of the first window's block at point `t` is the padded point `512 t + r` of the first cloud. -/
theorem block0 (c : Dev nD) (t : Fin cfg0.N) (r : Fin 512) (n : Fin 4096) (h : n.val = 512 * t.val + r.val) (k : Fin 8) :
    (iblk m c 0 t : Vec Ideal S512x8 .f32) (ix2 r k) = pad8 (xs m c n) k := by
  rw [← operand0]
  obtain ⟨h0, h1, -, -⟩ := index_in t
  blk_ext [iblk, h0, h1]

/-- Column `l` of the second window's block, at every point, is the padded point `l` of the second cloud. -/
theorem block1 (c : Dev nD) (t : Fin cfg0.N) (l : Fin 4096) (k : Fin 8) :
    (iblk m c 1 t : Vec Ideal S8x4096 .f32) (ix2 k l) = pad8 (ys m c l) k := by
  rw [← operand1]
  obtain ⟨-, -, h0, h1⟩ := index_in t
  blk_ext [iblk, h0, h1]

/-- The entry of a point's block of squared distances is the squared distance of the two points it stands for. -/
theorem block_dist (c : Dev nD) (t : Fin cfg0.N) (r : Fin 512) (l n : Fin 4096) (h : n.val = 512 * t.val + r.val) :
    k0_pay1 (F := Ideal) (iblk m c 0 t) (iblk m c 1 t) (ix2 r l) = dist2 (xs m c n) (ys m c l) :=
  pay1_apply _ _ r l _ _ (block0 m c t r n h) (block1 m c t l)

/-- What lies below every entry of column `l` of a point's block lies below the squared distances it stands for. -/
theorem le_block_inf (c : Dev nD) (t : Fin cfg0.N) (l : Fin 4096) (a : EReal) :
    (a ≤ Finset.univ.inf fun r : Fin 512 => k0_pay1 (F := Ideal) (iblk m c 0 t) (iblk m c 1 t) (ix2 r l))
      ↔ ∀ n : Fin 4096, 512 * t.val ≤ n.val → n.val < 512 * (t.val + 1) → a ≤ dist2 (xs m c n) (ys m c l) := by
  have hN : t.val < 8 := Nat.lt_of_lt_of_eq t.isLt N_0
  rw [Finset.le_inf_iff]
  constructor
  · intro h n h1 h2
    rw [← block_dist m c t ⟨n.val - 512 * t.val, by omega⟩ l n (by dsimp only; omega)]
    exact h _ (Finset.mem_univ _)
  · intro h r _
    have hr := r.isLt
    rw [block_dist m c t r l ⟨512 * t.val + r.val, by omega⟩ rfl]
    exact h _ (by dsimp only; omega) (by dsimp only; omega)

/-- THE RUNNING COLUMN MINIMUM: below its entry `l` after point `n` lies exactly what lies below the squared distances of
    the second cloud's point `l` to the first `512 (n + 1)` points of the first cloud. -/
theorem le_colMin (c : Dev nD) (l : Fin 4096) (a : EReal) : ∀ (n : ℕ) (h : n < cfg0.N),
    a ≤ colMin m c n h (ix2 0 l)
      ↔ ∀ k : Fin 4096, k.val < 512 * (n + 1) → a ≤ dist2 (xs m c k) (ys m c l)
  | 0, h => by
    have e := colMin_first m c ⟨0, h⟩ rfl
    dsimp only at e
    rw [e, pay4_apply, le_block_inf]
    exact ⟨fun H k hk => H k (by dsimp only; omega) hk, fun H k _ hk => H k hk⟩
  | n + 1, h => by
    have e := colMin_next m c ⟨n + 1, h⟩ (by dsimp only; omega)
    dsimp only at e
    rw [e, pay5_apply, le_min_iff, le_block_inf]
    have ih := le_colMin c l a n (Nat.lt_of_succ_lt h)
    constructor
    · rintro ⟨H1, H2⟩ k hk
      by_cases hk' : k.val < 512 * (n + 1)
      · exact ih.mp H1 k hk'
      · exact H2 k (by dsimp only; omega) hk
    · exact fun H => ⟨ih.mpr fun k hk => H k (by omega), fun k _ hk => H k hk⟩

/-- The least squared distance of the first cloud's point `n` to the second cloud; zero past the last point. -/
def rowMin (c : Dev nD) (n : ℕ) : EReal :=
  if h : n < 4096 then Finset.univ.inf fun l => dist2 (xs m c ⟨n, h⟩) (ys m c l) else 0

/-- The sum of a point's block's row minima, over the points of the first cloud it holds. -/
theorem block_rowSum (c : Dev nD) (t : Fin cfg0.N) :
    k0_pay2 (F := Ideal) (iblk m c 0 t) (iblk m c 1 t) = ∑ r ∈ Finset.range 512, rowMin m c (512 * t.val + r) := by
  have hN : t.val < 8 := Nat.lt_of_lt_of_eq t.isLt N_0
  rw [pay2_apply, Finset.sum_range]
  refine Finset.sum_congr rfl fun r _ => ?_
  have hr := r.isLt
  rw [rowMin, dif_pos (by omega)]
  exact Finset.inf_congr rfl fun l _ => block_dist m c t r l _ rfl

/-- THE RUNNING SUM: after point `n`, the row minima of the first `512 (n + 1)` points of the first cloud, summed. -/
theorem rowAcc_eq (c : Dev nD) : ∀ (n : ℕ) (h : n < cfg0.N),
    rowAcc m c n h = ∑ k ∈ Finset.range (512 * (n + 1)), rowMin m c k
  | 0, h => by
    have e := rowAcc_first m c ⟨0, h⟩ rfl
    dsimp only at e
    rw [e, block_rowSum]
    simp
  | n + 1, h => by
    have e := rowAcc_next m c ⟨n + 1, h⟩ (by dsimp only; omega)
    dsimp only at e
    rw [e, pay6_apply, block_rowSum, show 512 * (n + 1 + 1) = 512 * (n + 1) + 512 from by omega, Finset.sum_range_add]
    exact congrArg (· + _) (rowAcc_eq c n (Nat.lt_of_succ_lt h))

/-- THE RESULT BLOCK: what the last point stores is the Chamfer distance of the two clouds. -/
theorem out_eq (c : Dev nD) (t : Fin cfg0.N) (h : t.val = 7) (j : S1x1.Idx) :
    (outsAt0 m c t.val t.isLt).1 j = Cert.Chamfer.chamfer (xs m c) (ys m c) := by
  rw [out_last m c t h, pay7_apply, rowAcc_eq, Cert.Chamfer.chamfer, show 512 * (t.val + 1) = 4096 from by omega, Finset.sum_range]
  refine congrArg₂ (· + ·) (Finset.sum_congr rfl fun n _ => ?_) (Finset.sum_congr rfl fun l _ => ?_)
  · rw [rowMin, dif_pos n.isLt]
  · refine eq_of_forall_le_iff fun a => ?_
    rw [le_colMin, Finset.le_inf_iff]
    exact ⟨fun H k _ => H k (by have := k.isLt; omega), fun H k _ => H k (Finset.mem_univ _)⟩

end Cert.KernelIdeal.Chamfer

end
-- ==== Proof.KernelValue.lean ====
/-
  What the idealized kernel's result buffer ends at: the one block of the pallas_call's result array, written by the last
  grid point, read through the reshape to a scalar that follows the pallas_call.
-/
module

public import proofs.«01_k».proof.Proof.Accum

@[expose] public section

set_option maxRecDepth 16384

noncomputable section

namespace Cert.KernelIdeal.Chamfer

open Idealize.ShloMosaic Idealize.ShloMosaic.TcCoe Idealize.SL.Sem
open Cert.KernelIdeal Cert.KernelIdeal.Gen Cert.Chamfer

variable (m : (ℓ : Loc nD τ sig) → Buf (Elt Ideal) ℓ) (ρ : Dev nD → PrngReg)

/-- The array the pallas_call returns ends at the Chamfer distance of the two clouds. -/
theorem array_eq (c : Dev nD) : ((dats m 0 c).arrAt 2 cfg0.N : Vec Ideal S1x1 .f32) = fun _ => Cert.Chamfer.chamfer (xs m c) (ys m c) := by
  refine (dats m 0 c).arrAt_eq_of_after_last 2 t0_7 (by decide +kernel) _ fun j => ?_
  rw [after0_2]
  exact out_eq m c t0_7 rfl _

/-- The scalar the program returns ends at it too. -/
theorem tail_eq (c : Dev nD) : (Pipeline.afterTail₀ cfgs (dats m) 0 (V0 m) [hostOps1] c main_v6 : Vec Ideal S_ .f32)
    = fun _ => Cert.Chamfer.chamfer (xs m c) (ys m c) := by
  unfold Pipeline.afterTail₀
  simp only [hostOps1, List.flatten_cons, List.flatten_nil, List.append_nil]
  after_results
  erw [Pipeline.withArrays_arr _ launch0.win.arr_inj c (V0 m c) _ 2]
  rw [array_eq]
  rfl

/-- THE RUN: the result at the Chamfer distance of the two clouds, the arguments unchanged. -/
theorem run : θ_run defs (onTc (τ := τ) (main (F := Ideal))) ⟨m, fun _ => 0, ρ⟩ fun r => ∀ c : Dev nD,
      r.2.mem ((c.tc : Thread nD τ).loc main_v6) = (fun _ => Cert.Chamfer.chamfer (xs m c) (ys m c) : Vec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Chamfer

end
-- ==== Proof.RefValue.lean ====
/-
  What the reference computes, over the extended reals: the Chamfer distance of the two clouds. It takes the square root
  of each squared distance, the least of those, and its square.
-/
module

public import proofs.«01_k».proof.Proof.Gen.ReferenceIdeal.Read
public import proofs.«01_k».proof.Proof.Spec

@[expose] public section

set_option maxRecDepth 16384

noncomputable section

namespace Cert.ReferenceIdeal.Chamfer

open Idealize.ShloMosaic Idealize.ShloMosaic.TcCoe Idealize.SL.Sem
open Cert.ReferenceIdeal Cert.ReferenceIdeal.Gen Cert.ReferenceIdeal.Read Cert.Chamfer

variable (x y : (⟨S1x4096x3, .f32⟩ : BufTy).Contents (Elt Ideal))

/-- The first array of distances, at a point of the first cloud and one of the second. -/
theorem dist_first (n l : Fin 4096) :
    val_main_v14 (F := Ideal) x y (ix3 0 n l) = Ideal.sqrt (dist2 (cloud x n) (cloud y l)) := by
  pointwise [val_main_v14, val_main_v13, val_main_call0_v1, val_main_call0_v0, val_main_cst_2, val_main_v12, val_main_v11,
    val_main_v10, val_main_cst_1, val_main_v9, val_main_v8, val_main_v7, val_main_v6, val_main_v5, val_main_v4, val_main_cst_0,
    val_main_v3, val_main_v2, val_main_v1, val_main_cst, val_main_v0]
  rw [two_f32, show id (constant (F := Ideal) S_ .f32 0x00000000#32) ix0 = (0 : EReal) from Ideal.ofBits_zero_f32, max_comm]
  rfl

/-- The second array of distances, with the clouds exchanged. -/
theorem dist_second (l n : Fin 4096) :
    val_main_v29 (F := Ideal) x y (ix3 0 l n) = Ideal.sqrt (dist2 (cloud x n) (cloud y l)) := by
  rw [dist2_comm]
  pointwise [val_main_v29, val_main_v28, val_main_call1_v1, val_main_call1_v0, val_main_cst_6, val_main_v27, val_main_v26,
    val_main_v25, val_main_cst_5, val_main_v24, val_main_v23, val_main_v22, val_main_v21, val_main_v20, val_main_v19, val_main_cst_4,
    val_main_v18, val_main_v17, val_main_v16, val_main_cst_3, val_main_v15]
  rw [two_f32, show id (constant (F := Ideal) S_ .f32 0x00000000#32) ix0 = (0 : EReal) from Ideal.ofBits_zero_f32, max_comm]
  rfl

/-- The least entry of each row of an array of distances. -/
theorem row_min (d : Vec Ideal S1x4096x4096 .f32) (v : Vec Ideal S_ .f32) (hv : ∀ j, v j = Ideal.ofBits .f32 0x7F800000#32) (n : Fin 4096) :
    Host.reduce (FloatOps.minimumf (F := Ideal) (φ := .f32)) d v reducesTo_S1x4096x4096_S1x4096_d2 h_S_ (ix2 0 n)
      = Finset.univ.inf fun l => d (ix3 0 n l) := by
  pointwise
  rw [hv, inf_f32, fold_min]

/-- The first array of squared minima: each point of the first cloud's least squared distance to the second. -/
theorem sq_first (n : Fin 4096) :
    val_main_v32 (F := Ideal) x y (ix2 0 n) = Finset.univ.inf fun l => dist2 (cloud x n) (cloud y l) := by
  rw [val_main_v32_apply, Ideal.mulf_def]
  unfold val_main_v30
  rw [row_min _ _ fun j => val_main_cst_7_apply j]
  simp only [dist_first]
  exact inf_sqrt_sq _ fun l => dist2_nonneg _ _

/-- The second array of squared minima: each point of the second cloud's least squared distance to the first. -/
theorem sq_second (l : Fin 4096) :
    val_main_v34 (F := Ideal) x y (ix2 0 l) = Finset.univ.inf fun n => dist2 (cloud x n) (cloud y l) := by
  rw [val_main_v34_apply, Ideal.mulf_def]
  unfold val_main_v31
  rw [row_min _ _ fun j => val_main_cst_8_apply j]
  simp only [dist_second]
  exact inf_sqrt_sq _ fun n => dist2_nonneg _ _

/-- The first sum's terms are read along its row. -/
theorem idx_first (j : S1.Idx) (k : Fin 4096) : idx_main_v33 j k = ix2 0 k := by
  funext a
  match a with
  | ⟨0, _⟩ => exact Fin.ext (Nat.lt_one_iff.mp (j 0).isLt)
  | ⟨1, _⟩ => rfl

/-- The second sum's terms are read along its row. -/
theorem idx_second (j : S1.Idx) (k : Fin 4096) : idx_main_v35 j k = ix2 0 k := idx_first j k

/-- The two sums added. -/
theorem total (j : S1.Idx) : val_main_v36 (F := Ideal) x y j = chamfer (cloud x) (cloud y) := by
  rw [val_main_v36_apply, Ideal.addf_def, val_main_v33_apply, val_main_v35_apply, val_main_cst_9_apply, val_main_cst_10_apply]
  simp only [idx_first, idx_second, sq_first, sq_second]
  rw [Ideal.ofBits_def, Ideal.ofBits_zero_f32, zero_add, zero_add]
  rfl

/-- THE REFERENCE'S RESULT is the Chamfer distance of the two clouds. -/
theorem result_eq : val_main_v37 (F := Ideal) x y = fun _ => chamfer (cloud x) (cloud y) :=
  funext fun _ => total x y _

end Cert.ReferenceIdeal.Chamfer

end
-- ==== Proof.lean ====
/-
  The proof of `Cert.Claim`: the frames of the kernel, of its idealization and of the reference; the kernel's
  idealization preserves it; and over the extended reals the idealized kernel and the reference return the same scalar.
  That scalar is the Chamfer distance of the two clouds (Proof/Spec.lean): Proof/Cases.lean, Proof/Block.lean,
  Proof/Accum.lean and Proof/KernelValue.lean show it of the kernel, Proof/RefValue.lean of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and has no counter that could end elsewhere than at zero: it
    declares no semaphore. -/
theorem frame_reference : quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over the extended reals the idealized kernel and the reference return the same scalar from the same clouds: their
    Chamfer distance. -/
theorem algebraic : algebraic_KernelIdeal_ReferenceIdeal (hKernelIdeal := Cert.KernelIdeal.Gen.facts)
    (hReferenceIdeal := Cert.ReferenceIdeal.Gen.facts) := fun m g m' g' _ hagree =>
  ⟨fun c _ => Cert.Chamfer.chamfer (Cert.KernelIdeal.Chamfer.xs m c) (Cert.KernelIdeal.Chamfer.ys m c),
    Cert.KernelIdeal.Chamfer.run m g,
    (θ_run Cert.ReferenceIdeal.defs _ _).mono
      (fun _ h c => ⟨(h c).1.trans ((Cert.ReferenceIdeal.Read.val_main_v37_eq m' c).trans (by
          rw [(hagree c).1, (hagree c).2]
          exact Cert.ReferenceIdeal.Chamfer.result_eq _ _)), (h c).2⟩)
      (Cert.ReferenceIdeal.Value.run (F := Ideal) m' g')⟩

/-- The certificate's claim. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  frame_reference,
  trivial,
  algebraic⟩

end Cert.Proof

end
